-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S128x128 : Shape := ⟨2, ![128, 128]⟩
abbrev S2x320000 : Shape := ⟨2, ![2, 320000]⟩
abbrev S1x128x128 : Shape := ⟨3, ![1, 128, 128]⟩
abbrev S2x128x128 : Shape := ⟨3, ![2, 128, 128]⟩
abbrev S1x1 : Shape := ⟨2, ![1, 1]⟩
abbrev S5000x128 : Shape := ⟨2, ![5000, 128]⟩
abbrev S1000x128 : Shape := ⟨2, ![1000, 128]⟩
abbrev S16x128 : Shape := ⟨2, ![16, 128]⟩
abbrev S128 : Shape := ⟨1, ![128]⟩
abbrev S1x128 : Shape := ⟨2, ![1, 128]⟩
abbrev S5x128 : Shape := ⟨2, ![5, 128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S2x320000, .i32⟩
  | .hbm, ⟨5, _⟩ => ⟨S1x128x128, .f32⟩
  | .hbm, ⟨6, _⟩ => ⟨S1x128x128, .f32⟩
  | .hbm, ⟨7, _⟩ => ⟨S2x128x128, .f32⟩
  | .hbm, ⟨8, _⟩ => ⟨S10000x128, .f32⟩
  | .hbm, ⟨9, _⟩ => ⟨S10000x128, .f32⟩
  | .hbm, ⟨10, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S2x128x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1x1, .f32⟩
  | .local _ .vmem, ⟨10, _⟩ => ⟨S16x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![2, 5], ![false, false]⟩

def k0_off1 (i : grid0.Coords) : Fin 2 → Nat :=
  let arg1 : BitVec 32 := BitVec.ofNat 32 (i 1).val
  let c1000_i32 : BitVec 32 := 1000#32
  let v7 : BitVec 32 := Scalar.muli arg1 c1000_i32
  let v8 : Index := Scalar.indexCast v7
  let c0_4 : Index := 0#32
  ![v8.toNat, 0]
def k0_cond2 (i : grid0.Coords) : BitVec 1 :=
  let arg0 : BitVec 32 := BitVec.ofNat 32 (i 0).val
  let c1_i32 : BitVec 32 := 1#32
  let v59 : BitVec 1 := Scalar.cmpi .eq arg0 c1_i32
  let arg1 : BitVec 32 := BitVec.ofNat 32 (i 1).val
  let c4_i32 : BitVec 32 := 4#32
  let v60 : BitVec 1 := Scalar.cmpi .eq arg1 c4_i32
  let v61 : BitVec 1 := Scalar.andi v59 v60
  let v62 : BitVec 32 := Scalar.extui v61
  let c0_i32_31 : BitVec 32 := 0#32
  let v63 : BitVec 1 := Scalar.cmpi .ne v62 c0_i32_31
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg0
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg0
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "inv_n" => some ((1 / 10000 : ℝ) : EReal)
  | _ => none
-- ==== ReferenceIdeal.lean ====
abbrev S10000x128 : Shape := ⟨2, ![10000, 128]⟩
abbrev S128x128 : Shape := ⟨2, ![128, 128]⟩
abbrev S2x320000 : Shape := ⟨2, ![2, 320000]⟩
abbrev S_ : Shape := ⟨0, ![]⟩
abbrev S128 : Shape := ⟨1, ![128]⟩
abbrev S1x128 : Shape := ⟨2, ![1, 128]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S2x320000, .i32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S10000x128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S10000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S10000x128, .f32⟩
  | .hbm, ⟨74, _⟩ => ⟨S10000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S10000x128, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S10000x128, .f32⟩
  | .hbm, ⟨95, _⟩ => ⟨S10000x128, .f32⟩
  | .hbm, ⟨96, _⟩ => ⟨S10000x128, .f32⟩
  | .hbm, ⟨97, _⟩ => ⟨S_, .f32⟩
  | .hbm, ⟨98, _⟩ => ⟨S128, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S1x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_18 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_19 : Ref sig .tc := ⟨.hbm, 89, rfl⟩
abbrev main_v64 : Ref sig .tc := ⟨.hbm, 90, rfl⟩
abbrev main_cst_20 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_21 : Ref sig .tc := ⟨.hbm, 97, rfl⟩
abbrev main_v70 : Ref sig .tc := ⟨.hbm, 98, rfl⟩
abbrev main_cst_22 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_23 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Proof.Moments.lean ====
/-
  The mathematics of the loss, over the extended reals and apart from any program.

  The loss compares the means and the central moments 2 to 5 of the columns of two arrays. One form centres each
  entry first and averages the powers of the centred entries (`plainLoss`); the other averages the powers of
  the entries themselves and forms the central moments from those averages (`rawLoss`). Over the reals the two agree
  by the binomial theorem. Where an entry is infinite, both are plus infinity, so they agree without any assumption
  on the arrays (`rawLoss_eq_plainLoss`).
-/
module

public import Idealize.ShloMosaic.PureOps.Ideal
public import Idealize.ShloMosaic.PureOps.Ideal.Laws
public import Mathlib.Tactic.LinearCombination

@[expose] public section

noncomputable section

namespace Cert.Moments

open Idealize.ShloMosaic

variable {ι κ : Type} [Fintype ι] [Fintype κ]

/-- The average of `f`, where `w` is the reciprocal of the number of entries. -/
def avg (w : EReal) (f : ι → EReal) : EReal := (∑ r, f r) * w

/-- The length of the vector of differences `a - b`. -/
def dist (a b : κ → EReal) : EReal := Ideal.sqrt (∑ c, (a c - b c) * (a c - b c))

/-- The square. -/
def pow2 (x : EReal) : EReal := x * x
/-- The cube, as square times number. -/
def pow3 (x : EReal) : EReal := x * x * x
/-- The fourth power, as square times square. -/
def pow4 (x : EReal) : EReal := x * x * (x * x)
/-- The fifth power, as fourth power times number. -/
def pow5 (x : EReal) : EReal := x * x * (x * x) * x

/-- The average over the column of the image under `p` of the entries centred at their mean. -/
def central (w : EReal) (p : EReal → EReal) (f : ι → EReal) : EReal :=
  avg w fun r => p (f r - avg w f)

/-- The loss in its plain form: the distance of the means, and the distances of the central moments 2 to 5. -/
def plainLoss (w : EReal) (A B : κ → ι → EReal) : EReal :=
  dist (fun c => avg w (A c)) (fun c => avg w (B c))
    + dist (fun c => central w pow2 (A c)) (fun c => central w pow2 (B c))
    + dist (fun c => central w pow3 (A c)) (fun c => central w pow3 (B c))
    + dist (fun c => central w pow4 (A c)) (fun c => central w pow4 (B c))
    + dist (fun c => central w pow5 (A c)) (fun c => central w pow5 (B c))

/-- The second central moment, from the averages of the first two powers. -/
def raw2 (m₁ m₂ : EReal) : EReal := m₂ - m₁ * m₁
/-- The third central moment, from the averages of the first three powers. -/
def raw3 (m₁ m₂ m₃ : EReal) : EReal :=
  m₃ - ((3 : ℝ) : EReal) * m₁ * m₂ + ((2 : ℝ) : EReal) * (m₁ * (m₁ * m₁))
/-- The fourth central moment, from the averages of the first four powers. -/
def raw4 (m₁ m₂ m₃ m₄ : EReal) : EReal :=
  m₄ - ((4 : ℝ) : EReal) * m₁ * m₃ + ((6 : ℝ) : EReal) * (m₁ * m₁) * m₂
    - ((3 : ℝ) : EReal) * (m₁ * m₁ * (m₁ * m₁))
/-- The fifth central moment, from the averages of the first five powers. -/
def raw5 (m₁ m₂ m₃ m₄ m₅ : EReal) : EReal :=
  m₅ - ((5 : ℝ) : EReal) * m₁ * m₄ + ((10 : ℝ) : EReal) * (m₁ * m₁) * m₃
    - ((10 : ℝ) : EReal) * (m₁ * (m₁ * m₁)) * m₂ + ((4 : ℝ) : EReal) * (m₁ * (m₁ * m₁ * (m₁ * m₁)))

/-- The loss from the averages of the first five powers of each column, `a k c` being the average of the
    power `k + 1` of column `c`. -/
def momentLoss (a b : Fin 5 → κ → EReal) : EReal :=
  dist (a 0) (b 0)
    + dist (fun c => raw2 (a 0 c) (a 1 c)) (fun c => raw2 (b 0 c) (b 1 c))
    + dist (fun c => raw3 (a 0 c) (a 1 c) (a 2 c)) (fun c => raw3 (b 0 c) (b 1 c) (b 2 c))
    + dist (fun c => raw4 (a 0 c) (a 1 c) (a 2 c) (a 3 c)) (fun c => raw4 (b 0 c) (b 1 c) (b 2 c) (b 3 c))
    + dist (fun c => raw5 (a 0 c) (a 1 c) (a 2 c) (a 3 c) (a 4 c))
        (fun c => raw5 (b 0 c) (b 1 c) (b 2 c) (b 3 c) (b 4 c))

/-- The first five powers, by index. -/
def power : Fin 5 → EReal → EReal := ![id, pow2, pow3, pow4, pow5]

/-- The loss in the form that averages powers of the uncentred entries. -/
def rawLoss (w : EReal) (A B : κ → ι → EReal) : EReal :=
  momentLoss (fun k c => avg w fun r => power k (A c r)) (fun k c => avg w fun r => power k (B c r))

/-! ## Infinite entries -/

/-- A sum with a `-∞` among its terms is `-∞`. -/
theorem sum_bot (s : Finset ι) (f : ι → EReal) (i : ι) (hi : i ∈ s) (h : f i = ⊥) : ∑ r ∈ s, f r = ⊥ := by
  classical
  rw [← Finset.add_sum_erase s f hi, h, EReal.bot_add]

/-- A sum none of whose terms is `-∞` is not `-∞`. -/
theorem sum_ne_bot (s : Finset ι) (f : ι → EReal) (h : ∀ i ∈ s, f i ≠ ⊥) : ∑ r ∈ s, f r ≠ ⊥ := by
  classical
  induction s using Finset.induction_on with
  | empty => simp
  | insert a s ha ih =>
    rw [Finset.sum_insert ha]
    intro e
    rcases EReal.add_eq_bot_iff.mp e with e | e
    · exact h a (by simp) e
    · exact ih (fun i hi => h i (by simp [hi])) e

/-- A sum with a `+∞` and no `-∞` among its terms is `+∞`. -/
theorem sum_top (f : ι → EReal) (i : ι) (h : f i = ⊤) (hb : ∀ r, f r ≠ ⊥) : ∑ r, f r = ⊤ := by
  classical
  rw [← Finset.add_sum_erase Finset.univ f (Finset.mem_univ i), h]
  exact EReal.top_add_of_ne_bot (sum_ne_bot _ f fun r _ => hb r)

/-- A sum with an infinite term is infinite. -/
theorem sum_infinite (f : ι → EReal) (i : ι) (h : f i = ⊤ ∨ f i = ⊥) : ∑ r, f r = ⊤ ∨ ∑ r, f r = ⊥ := by
  by_cases hb : ∃ r, f r = ⊥
  · obtain ⟨r, hr⟩ := hb
    exact .inr (sum_bot _ f r (Finset.mem_univ r) hr)
  · push Not at hb
    rcases h with h | h
    · exact .inl (sum_top f i h hb)
    · exact absurd h (hb i)

/-- The average of a column with an infinite entry is infinite. -/
theorem avg_infinite {w : ℝ} (hw : 0 < w) (f : ι → EReal) (i : ι) (h : f i = ⊤ ∨ f i = ⊥) :
    avg (w : EReal) f = ⊤ ∨ avg (w : EReal) f = ⊥ := by
  unfold avg
  rcases sum_infinite f i h with e | e <;> rw [e]
  · exact .inl (EReal.top_mul_coe_of_pos hw)
  · exact .inr (EReal.bot_mul_coe_of_pos hw)

/-- A difference with an infinite side is infinite. -/
theorem sub_infinite (x y : EReal) (h : (x = ⊤ ∨ x = ⊥) ∨ (y = ⊤ ∨ y = ⊥)) : x - y = ⊤ ∨ x - y = ⊥ := by
  induction x <;> induction y <;> simp_all

/-- A square is at least zero. -/
theorem mul_self_nonneg (x : EReal) : 0 ≤ x * x := by
  induction x with
  | bot => simp
  | top => simp
  | coe x => rw [← EReal.coe_mul]; exact_mod_cast _root_.mul_self_nonneg x

/-- The square root of a number at least zero is not `-∞`. -/
theorem sqrt_ne_bot (x : EReal) (h : 0 ≤ x) : Ideal.sqrt x ≠ ⊥ := by
  induction x with
  | bot => simp at h
  | top => simp
  | coe x => rw [Ideal.sqrt_coe, if_neg (not_lt.mpr (by exact_mod_cast h))]; exact EReal.coe_ne_bot _

/-- A distance is never `-∞`. -/
theorem dist_ne_bot (a b : κ → EReal) : dist a b ≠ ⊥ :=
  sqrt_ne_bot _ (Finset.sum_nonneg fun _ _ => mul_self_nonneg _)

/-- The distance of two vectors that have an infinite coordinate is `+∞`. -/
theorem dist_top (a b : κ → EReal) (c : κ) (h : (a c = ⊤ ∨ a c = ⊥) ∨ (b c = ⊤ ∨ b c = ⊥)) : dist a b = ⊤ := by
  unfold dist
  rw [sum_top _ c]
  · exact Ideal.sqrt_top
  · rcases sub_infinite _ _ h with e | e <;> simp [e]
  · intro r e
    exact absurd (mul_self_nonneg (a r - b r)) (by simp [e])

/-- Both forms of the loss are `+∞` when the means have an infinite coordinate. -/
theorem losses_top (w : EReal) (A B : κ → ι → EReal)
    (h : dist (fun c => avg w (A c)) (fun c => avg w (B c)) = ⊤) :
    rawLoss w A B = plainLoss w A B := by
  have h' : dist (fun c => avg w fun r => power 0 (A c r)) (fun c => avg w fun r => power 0 (B c r)) = ⊤ := h
  unfold rawLoss momentLoss plainLoss
  rw [h, h']
  simp only [EReal.top_add_of_ne_bot (dist_ne_bot _ _)]

/-! ## Finite entries -/

/-- The real numbers' sum, inside the extended reals. -/
theorem coe_sum (f : ι → ℝ) : ∑ r, ((f r : ℝ) : EReal) = ((∑ r, f r : ℝ) : EReal) :=
  (map_sum (⟨⟨Real.toEReal, EReal.coe_zero⟩, EReal.coe_add⟩ : ℝ →+ EReal) f Finset.univ).symm

/-- The average of real entries. -/
theorem avg_coe (w : ℝ) (f : ι → ℝ) : avg (w : EReal) (fun r => ((f r : ℝ) : EReal)) = (((∑ r, f r) * w : ℝ) : EReal) := by
  rw [avg, coe_sum, EReal.coe_mul]

section Real

variable (w : ℝ) (hw : (Fintype.card ι : ℝ) * w = 1) (f : ι → ℝ)
include hw

/-- The second central moment of a real column. -/
theorem central2 : central (w : EReal) pow2 (fun r => (f r : EReal))
    = raw2 (avg w fun r => (f r : EReal)) (avg w fun r => pow2 (f r)) := by
  simp only [central, pow2, raw2, avg_coe, ← EReal.coe_mul, ← EReal.coe_sub]
  congr 1
  set m := (∑ r, f r) * w with hm
  have e : ∀ r, (f r - m) * (f r - m) = f r * f r - 2 * m * f r + m * m := fun r => by ring
  simp only [e, Finset.sum_add_distrib, Finset.sum_sub_distrib, ← Finset.mul_sum, Finset.sum_const,
    Finset.card_univ, nsmul_eq_mul]
  linear_combination (m * m) * hw + 2 * m * hm

/-- The third central moment of a real column. -/
theorem central3 : central (w : EReal) pow3 (fun r => (f r : EReal))
    = raw3 (avg w fun r => (f r : EReal)) (avg w fun r => pow2 (f r)) (avg w fun r => pow3 (f r)) := by
  simp only [central, pow2, pow3, raw3, avg_coe, ← EReal.coe_mul, ← EReal.coe_sub, ← EReal.coe_add]
  congr 1
  set m := (∑ r, f r) * w with hm
  have e : ∀ r, (f r - m) * (f r - m) * (f r - m)
      = f r * f r * f r - 3 * m * (f r * f r) + 3 * m ^ 2 * f r - m ^ 3 := fun r => by ring
  simp only [e, Finset.sum_add_distrib, Finset.sum_sub_distrib, ← Finset.mul_sum, Finset.sum_const,
    Finset.card_univ, nsmul_eq_mul]
  linear_combination (-m ^ 3) * hw - 3 * m ^ 2 * hm

/-- The fourth central moment of a real column. -/
theorem central4 : central (w : EReal) pow4 (fun r => (f r : EReal))
    = raw4 (avg w fun r => (f r : EReal)) (avg w fun r => pow2 (f r)) (avg w fun r => pow3 (f r))
        (avg w fun r => pow4 (f r)) := by
  simp only [central, pow2, pow3, pow4, raw4, avg_coe, ← EReal.coe_mul, ← EReal.coe_sub, ← EReal.coe_add]
  congr 1
  set m := (∑ r, f r) * w with hm
  have e : ∀ r, (f r - m) * (f r - m) * ((f r - m) * (f r - m))
      = f r * f r * (f r * f r) - 4 * m * (f r * f r * f r) + 6 * m ^ 2 * (f r * f r) - 4 * m ^ 3 * f r + m ^ 4 :=
    fun r => by ring
  simp only [e, Finset.sum_add_distrib, Finset.sum_sub_distrib, ← Finset.mul_sum, Finset.sum_const,
    Finset.card_univ, nsmul_eq_mul]
  linear_combination (m ^ 4) * hw + 4 * m ^ 3 * hm

/-- The fifth central moment of a real column. -/
theorem central5 : central (w : EReal) pow5 (fun r => (f r : EReal))
    = raw5 (avg w fun r => (f r : EReal)) (avg w fun r => pow2 (f r)) (avg w fun r => pow3 (f r))
        (avg w fun r => pow4 (f r)) (avg w fun r => pow5 (f r)) := by
  simp only [central, pow2, pow3, pow4, pow5, raw5, avg_coe, ← EReal.coe_mul, ← EReal.coe_sub, ← EReal.coe_add]
  congr 1
  set m := (∑ r, f r) * w with hm
  have e : ∀ r, (f r - m) * (f r - m) * ((f r - m) * (f r - m)) * (f r - m)
      = f r * f r * (f r * f r) * f r - 5 * m * (f r * f r * (f r * f r)) + 10 * m ^ 2 * (f r * f r * f r)
        - 10 * m ^ 3 * (f r * f r) + 5 * m ^ 4 * f r - m ^ 5 := fun r => by ring
  simp only [e, Finset.sum_add_distrib, Finset.sum_sub_distrib, ← Finset.mul_sum, Finset.sum_const,
    Finset.card_univ, nsmul_eq_mul]
  linear_combination (-m ^ 5) * hw - 5 * m ^ 4 * hm

end Real

/-- THE EQUATION: averaging the powers of the entries and correcting, or centring first, gives the same loss, for all
    arrays of extended reals. -/
theorem rawLoss_eq_plainLoss (w : ℝ) (hw : (Fintype.card ι : ℝ) * w = 1) (A B : κ → ι → EReal) :
    rawLoss (w : EReal) A B = plainLoss (w : EReal) A B := by
  have hpos : 0 < w := by
    rcases lt_trichotomy w 0 with h | h | h
    · nlinarith [(Nat.cast_nonneg (Fintype.card ι) : (0 : ℝ) ≤ _)]
    · simp [h] at hw
    · exact h
  by_cases hA : ∃ c r, A c r = ⊤ ∨ A c r = ⊥
  · obtain ⟨c, r, h⟩ := hA
    exact losses_top _ A B (dist_top _ _ c (.inl (avg_infinite hpos _ r h)))
  by_cases hB : ∃ c r, B c r = ⊤ ∨ B c r = ⊥
  · obtain ⟨c, r, h⟩ := hB
    exact losses_top _ A B (dist_top _ _ c (.inr (avg_infinite hpos _ r h)))
  push Not at hA hB
  obtain ⟨a, rfl⟩ : ∃ a : κ → ι → ℝ, A = fun c r => ((a c r : ℝ) : EReal) :=
    ⟨fun c r => (A c r).toReal, funext fun c => funext fun r => (EReal.coe_toReal (hA c r).1 (hA c r).2).symm⟩
  obtain ⟨b, rfl⟩ : ∃ b : κ → ι → ℝ, B = fun c r => ((b c r : ℝ) : EReal) :=
    ⟨fun c r => (B c r).toReal, funext fun c => funext fun r => (EReal.coe_toReal (hB c r).1 (hB c r).2).symm⟩
  unfold plainLoss
  simp only [central2 w hw, central3 w hw, central4 w hw, central5 w hw]
  rfl

end Cert.Moments

end
-- ==== Proof.Consts.lean ====
/-
  The scalar constants of the two programs, as extended reals: each word both programs print, and the value of the
  named constant `inv_n`.
-/
module

public import proofs.«01_k».proof.KernelIdeal
public import Idealize.ShloMosaic.PureOps.IdealRules
public import Idealize.ShloMosaic.Lib.IdealHost

@[expose] public section

noncomputable section

namespace Cert.Consts

open Idealize.ShloMosaic

/-- The word of `2.0`. -/
theorem two : Ideal.ofBits .f32 0x40000000#32 = ((2 : ℝ) : EReal) := by
  simp [Ideal.ofBits, Ideal.ieee, -EReal.coe_mul]; norm_num
/-- The word of `3.0`. -/
theorem three : Ideal.ofBits .f32 0x40400000#32 = ((3 : ℝ) : EReal) := by
  simp [Ideal.ofBits, Ideal.ieee, -EReal.coe_mul]; norm_num
/-- The word of `4.0`. -/
theorem four : Ideal.ofBits .f32 0x40800000#32 = ((4 : ℝ) : EReal) := by
  simp [Ideal.ofBits, Ideal.ieee, -EReal.coe_mul]; norm_num
/-- The word of `5.0`. -/
theorem five : Ideal.ofBits .f32 0x40A00000#32 = ((5 : ℝ) : EReal) := by
  simp [Ideal.ofBits, Ideal.ieee, -EReal.coe_mul]; norm_num
/-- The word of `6.0`. -/
theorem six : Ideal.ofBits .f32 0x40C00000#32 = ((6 : ℝ) : EReal) := by
  simp [Ideal.ofBits, Ideal.ieee, -EReal.coe_mul]; norm_num
/-- The word of `10.0`. -/
theorem ten : Ideal.ofBits .f32 0x41200000#32 = ((10 : ℝ) : EReal) := by
  simp [Ideal.ofBits, Ideal.ieee, -EReal.coe_mul]; norm_num
/-- The word of `10000.0`, the number of rows. -/
theorem rows : Ideal.ofBits .f32 0x461C4000#32 = ((10000 : ℝ) : EReal) := by
  simp [Ideal.ofBits, Ideal.ieee, -EReal.coe_mul]; norm_num

/-- The weight of one row in an average. -/
abbrev w : EReal := ((1 / 10000 : ℝ) : EReal)

/-- The named constant is that weight. -/
theorem inv_n : Named.named (F := Ideal) (φ := .f32) Cert.KernelIdeal.κ "inv_n" 0x38D1B717#32 = w :=
  IdealRules.named_const.ideal_named_scalar _ _ _ _ rfl

/-- Dividing by the number of rows is multiplying by that weight. -/
theorem div_rows (s : EReal) : Ideal.div s ((10000 : ℝ) : EReal) = s * w :=
  Ideal.div_coe (by norm_num) s

end Cert.Consts

end
-- ==== Proof.RefValue.lean ====
/-
  What the reference computes: its two products as they stand, and its loss as the plain loss of the columns of the
  two products.
-/
module

public import proofs.«01_k».proof.Proof.Moments
public import proofs.«01_k».proof.Proof.Consts
public import proofs.«01_k».proof.Proof.Gen.ReferenceIdeal.Read
public import Idealize.ShloMosaic.Lib.Pointwise.Tactic

@[expose] public section

set_option maxRecDepth 16384

noncomputable section

namespace Cert.ReferenceIdeal.Loss

open Cert.ReferenceIdeal Cert.ReferenceIdeal.Gen Cert.ReferenceIdeal.Read
open Idealize.ShloMosaic Cert.Moments Cert.Consts

/-- Column `c` of an array of rows. -/
abbrev col (h : FVec Ideal S10000x128 .f32) (c : Fin 128) (r : Fin 10000) : EReal := h (ix2 r c)

/-- Two indices of the rows' array with equal coordinates are equal. -/
theorem idx_rows (i : S10000x128.Idx) (r : Fin 10000) (c : Fin 128) (h0 : (i 0).val = r.val) (h1 : (i 1).val = c.val) :
    i = ix2 r c := by
  funext a
  match a with
  | ⟨0, _⟩ => exact Fin.ext h0
  | ⟨1, _⟩ => exact Fin.ext h1

/-- Two indices of a column's array with equal coordinate are equal. -/
theorem idx_col (i : S128.Idx) (c : Fin 128) (h : (i 0).val = c.val) : i = ix1 c := by
  funext a
  match a with
  | ⟨0, _⟩ => exact Fin.ext h

/-- A sum started at the printed zero and divided by the printed row count is the average of the column. -/
theorem average (h : FVec Ideal S10000x128 .f32) (idx : Fin 10000 → S10000x128.Idx) (c : Fin 128)
    (hi : ∀ k, idx k = ix2 k c) :
    Ideal.div (Ideal.ofBits .f32 0x00000000#32 + ∑ k, h (idx k)) (Ideal.ofBits .f32 0x461C4000#32) = avg w (col h c) := by
  simp only [hi, Ideal.ofBits_zero_f32, zero_add, rows, div_rows, avg]

/-- The average over the rows of an array whose column `c` holds the `p`-th powers of the centred column of `h`. -/
theorem central_average (g h : FVec Ideal S10000x128 .f32) (p : EReal → EReal) (idx : Fin 10000 → S10000x128.Idx)
    (c : Fin 128) (hi : ∀ k, idx k = ix2 k c) (hg : ∀ r, g (ix2 r c) = p (h (ix2 r c) - avg w (col h c))) :
    Ideal.div (Ideal.ofBits .f32 0x00000000#32 + ∑ k, g (idx k)) (Ideal.ofBits .f32 0x461C4000#32)
      = central w p (col h c) := by
  rw [average g idx c hi]
  exact congrArg (avg w) (funext hg)

/-- The root of a sum, started at the printed zero, of squared differences is the distance of the two vectors. -/
theorem distance (d : FVec Ideal S128 .f32) (a b : Fin 128 → EReal)
    (hd : ∀ c, d (ix1 c) = (a c - b c) * (a c - b c)) :
    Ideal.sqrt (Ideal.ofBits .f32 0x00000000#32 + ∑ j : S128.Idx, d j) = Moments.dist a b := by
  rw [Ideal.ofBits_zero_f32, zero_add, sum_idx1]
  simp only [hd, Moments.dist]

variable (x0 x1 : FVec Ideal S10000x128 .f32) (x2 x3 : FVec Ideal S128x128 .f32)

/-- The means of the first product's columns. -/
theorem mean_s (c : Fin 128) : val_main_v4 (F := Ideal) x0 x2 (ix1 c) = avg w (col (val_main_v0 (F := Ideal) x0 x2) c) := by
  rw [val_main_v4_apply, val_main_v2_apply, val_main_v3_apply, val_main_cst_0_apply, val_main_cst_apply]
  exact average _ _ _ fun k => idx_rows _ _ _ rfl rfl

/-- The means of the second product's columns. -/
theorem mean_t (c : Fin 128) : val_main_v7 (F := Ideal) x1 x3 (ix1 c) = avg w (col (val_main_v1 (F := Ideal) x1 x3) c) := by
  rw [val_main_v7_apply, val_main_v5_apply, val_main_v6_apply, val_main_cst_2_apply, val_main_cst_1_apply]
  exact average _ _ _ fun k => idx_rows _ _ _ rfl rfl

/-- The first product's columns less their means. -/
theorem centred_s (r : Fin 10000) (c : Fin 128) :
    val_main_v10 (F := Ideal) x0 x2 (ix2 r c) = val_main_v0 (F := Ideal) x0 x2 (ix2 r c) - avg w (col (val_main_v0 (F := Ideal) x0 x2) c) := by
  rw [val_main_v10_apply, val_main_v9_apply, val_main_v8_apply, idx_col (idx_main_v8 (idx_main_v9 (ix2 r c))) c rfl, mean_s]
  rfl

/-- The second product's columns less their means. -/
theorem centred_t (r : Fin 10000) (c : Fin 128) :
    val_main_v13 (F := Ideal) x1 x3 (ix2 r c) = val_main_v1 (F := Ideal) x1 x3 (ix2 r c) - avg w (col (val_main_v1 (F := Ideal) x1 x3) c) := by
  rw [val_main_v13_apply, val_main_v12_apply, val_main_v11_apply, idx_col (idx_main_v11 (idx_main_v12 (ix2 r c))) c rfl, mean_t]
  rfl

/-- The second central moments of the first product's columns. -/
theorem central2_s (c : Fin 128) : val_main_v21 (F := Ideal) x0 x2 (ix1 c) = central w pow2 (col (val_main_v0 (F := Ideal) x0 x2) c) := by
  rw [val_main_v21_apply, val_main_v19_apply, val_main_v20_apply, val_main_cst_5_apply, val_main_cst_4_apply]
  refine central_average _ _ pow2 _ _ (fun k => idx_rows _ _ _ rfl rfl) fun r => ?_
  rw [val_main_v18_apply, centred_s]
  exact rfl

/-- The second central moments of the second product's columns. -/
theorem central2_t (c : Fin 128) : val_main_v25 (F := Ideal) x1 x3 (ix1 c) = central w pow2 (col (val_main_v1 (F := Ideal) x1 x3) c) := by
  rw [val_main_v25_apply, val_main_v23_apply, val_main_v24_apply, val_main_cst_7_apply, val_main_cst_6_apply]
  refine central_average _ _ pow2 _ _ (fun k => idx_rows _ _ _ rfl rfl) fun r => ?_
  rw [val_main_v22_apply, centred_t]
  exact rfl

/-- The third central moments of the first product's columns. -/
theorem central3_s (c : Fin 128) : val_main_v35 (F := Ideal) x0 x2 (ix1 c) = central w pow3 (col (val_main_v0 (F := Ideal) x0 x2) c) := by
  rw [val_main_v35_apply, val_main_v33_apply, val_main_v34_apply, val_main_cst_10_apply, val_main_cst_9_apply]
  refine central_average _ _ pow3 _ _ (fun k => idx_rows _ _ _ rfl rfl) fun r => ?_
  rw [val_main_v32_apply, val_main_v31_apply, centred_s]
  exact rfl

/-- The third central moments of the second product's columns. -/
theorem central3_t (c : Fin 128) : val_main_v40 (F := Ideal) x1 x3 (ix1 c) = central w pow3 (col (val_main_v1 (F := Ideal) x1 x3) c) := by
  rw [val_main_v40_apply, val_main_v38_apply, val_main_v39_apply, val_main_cst_12_apply, val_main_cst_11_apply]
  refine central_average _ _ pow3 _ _ (fun k => idx_rows _ _ _ rfl rfl) fun r => ?_
  rw [val_main_v37_apply, val_main_v36_apply, centred_t]
  exact rfl

/-- The fourth central moments of the first product's columns. -/
theorem central4_s (c : Fin 128) : val_main_v50 (F := Ideal) x0 x2 (ix1 c) = central w pow4 (col (val_main_v0 (F := Ideal) x0 x2) c) := by
  rw [val_main_v50_apply, val_main_v48_apply, val_main_v49_apply, val_main_cst_15_apply, val_main_cst_14_apply]
  refine central_average _ _ pow4 _ _ (fun k => idx_rows _ _ _ rfl rfl) fun r => ?_
  rw [val_main_v47_apply, val_main_v46_apply, centred_s]
  exact rfl

/-- The fourth central moments of the second product's columns. -/
theorem central4_t (c : Fin 128) : val_main_v55 (F := Ideal) x1 x3 (ix1 c) = central w pow4 (col (val_main_v1 (F := Ideal) x1 x3) c) := by
  rw [val_main_v55_apply, val_main_v53_apply, val_main_v54_apply, val_main_cst_17_apply, val_main_cst_16_apply]
  refine central_average _ _ pow4 _ _ (fun k => idx_rows _ _ _ rfl rfl) fun r => ?_
  rw [val_main_v52_apply, val_main_v51_apply, centred_t]
  exact rfl

/-- The fifth central moments of the first product's columns. -/
theorem central5_s (c : Fin 128) : val_main_v66 (F := Ideal) x0 x2 (ix1 c) = central w pow5 (col (val_main_v0 (F := Ideal) x0 x2) c) := by
  rw [val_main_v66_apply, val_main_v64_apply, val_main_v65_apply, val_main_cst_20_apply, val_main_cst_19_apply]
  refine central_average _ _ pow5 _ _ (fun k => idx_rows _ _ _ rfl rfl) fun r => ?_
  rw [val_main_v63_apply, val_main_v62_apply, val_main_v61_apply, centred_s]
  exact mul_comm _ _

/-- The fifth central moments of the second product's columns. -/
theorem central5_t (c : Fin 128) : val_main_v72 (F := Ideal) x1 x3 (ix1 c) = central w pow5 (col (val_main_v1 (F := Ideal) x1 x3) c) := by
  rw [val_main_v72_apply, val_main_v70_apply, val_main_v71_apply, val_main_cst_22_apply, val_main_cst_21_apply]
  refine central_average _ _ pow5 _ _ (fun k => idx_rows _ _ _ rfl rfl) fun r => ?_
  rw [val_main_v69_apply, val_main_v68_apply, val_main_v67_apply, centred_t]
  exact mul_comm _ _

/-- The distance of the first means. -/
theorem dist1 (i : S_.Idx) :
    val_main_v17 (F := Ideal) x0 x1 x2 x3 i = Moments.dist (fun c => avg w (col (val_main_v0 (F := Ideal) x0 x2) c)) (fun c => avg w (col (val_main_v1 (F := Ideal) x1 x3) c)) := by
  rw [val_main_v17_apply, val_main_v16_apply, val_main_cst_3_apply]
  refine distance _ _ _ fun c => ?_
  rw [val_main_v15_apply, val_main_v14_apply, mean_s, mean_t]
  rfl

/-- The distance of the second central moments. -/
theorem dist2 (i : S_.Idx) :
    val_main_v29 (F := Ideal) x0 x1 x2 x3 i = Moments.dist (fun c => central w pow2 (col (val_main_v0 (F := Ideal) x0 x2) c)) (fun c => central w pow2 (col (val_main_v1 (F := Ideal) x1 x3) c)) := by
  rw [val_main_v29_apply, val_main_v28_apply, val_main_cst_8_apply]
  refine distance _ _ _ fun c => ?_
  rw [val_main_v27_apply, val_main_v26_apply, central2_s, central2_t]
  rfl

/-- The distance of the third central moments. -/
theorem dist3 (i : S_.Idx) :
    val_main_v44 (F := Ideal) x0 x1 x2 x3 i = Moments.dist (fun c => central w pow3 (col (val_main_v0 (F := Ideal) x0 x2) c)) (fun c => central w pow3 (col (val_main_v1 (F := Ideal) x1 x3) c)) := by
  rw [val_main_v44_apply, val_main_v43_apply, val_main_cst_13_apply]
  refine distance _ _ _ fun c => ?_
  rw [val_main_v42_apply, val_main_v41_apply, central3_s, central3_t]
  rfl

/-- The distance of the fourth central moments. -/
theorem dist4 (i : S_.Idx) :
    val_main_v59 (F := Ideal) x0 x1 x2 x3 i = Moments.dist (fun c => central w pow4 (col (val_main_v0 (F := Ideal) x0 x2) c)) (fun c => central w pow4 (col (val_main_v1 (F := Ideal) x1 x3) c)) := by
  rw [val_main_v59_apply, val_main_v58_apply, val_main_cst_18_apply]
  refine distance _ _ _ fun c => ?_
  rw [val_main_v57_apply, val_main_v56_apply, central4_s, central4_t]
  rfl

/-- The distance of the fifth central moments. -/
theorem dist5 (i : S_.Idx) :
    val_main_v76 (F := Ideal) x0 x1 x2 x3 i = Moments.dist (fun c => central w pow5 (col (val_main_v0 (F := Ideal) x0 x2) c)) (fun c => central w pow5 (col (val_main_v1 (F := Ideal) x1 x3) c)) := by
  rw [val_main_v76_apply, val_main_v75_apply, val_main_cst_23_apply]
  refine distance _ _ _ fun c => ?_
  rw [val_main_v74_apply, val_main_v73_apply, central5_s, central5_t]
  rfl

/-- The reference's loss is the plain loss of the columns of the two products. -/
theorem loss (i : S_.Idx) :
    val_main_v77 (F := Ideal) x0 x1 x2 x3 i
      = plainLoss w (col (val_main_v0 (F := Ideal) x0 x2)) (col (val_main_v1 (F := Ideal) x1 x3)) := by
  rw [val_main_v77_apply, val_main_v60_apply, val_main_v45_apply, val_main_v30_apply, dist1, dist2, dist3, dist4, dist5]
  rfl

/-- The same, of the 1×1 array the reference returns. -/
theorem loss_unit (i : S1x1.Idx) :
    val_main_v78 (F := Ideal) x0 x1 x2 x3 i
      = plainLoss w (col (val_main_v0 (F := Ideal) x0 x2)) (col (val_main_v1 (F := Ideal) x1 x3)) :=
  loss x0 x1 x2 x3 _

end Cert.ReferenceIdeal.Loss

end
-- ==== Proof.Block.lean ====
/-
  What one block computes, entry by entry: the product of a block of rows with a weight matrix, the five rows of power
  sums of such a product added to what was accumulated, and the loss read off an accumulator.
-/
module

public import proofs.«01_k».proof.Proof.Moments
public import proofs.«01_k».proof.Proof.Consts
public import proofs.«01_k».proof.Proof.Gen.KernelIdeal.Value
public import Idealize.ShloMosaic.Lib.Pipeline.ValueKit.Tiles
public import Idealize.ShloMosaic.Lib.Pointwise

@[expose] public section

set_option maxRecDepth 16384

noncomputable section

namespace Cert.KernelIdeal.Block

open Cert.KernelIdeal Cert.KernelIdeal.Gen
open Idealize.ShloMosaic Cert.Moments Cert.Consts

/-- The product block of the first output: row times weight column. -/
theorem product_s (x5 : Vec Ideal S1x128x128 .f32) (x : Vec Ideal S1000x128 .f32) (r : Fin 1000) (c : Fin 128) :
    k0_pay26 x5 x (ix2 r c) = ∑ k : Fin 128, x (ix2 r k) * x5 (ix3 0 k c) := by
  unfold_payloads
  pointwise

/-- The product block of the second output. -/
theorem product_t (x5 : Vec Ideal S1x128x128 .f32) (x : Vec Ideal S1000x128 .f32) (r : Fin 1000) (c : Fin 128) :
    k0_pay1 x5 x (ix2 r c) = ∑ k : Fin 128, x (ix2 r k) * x5 (ix3 0 k c) :=
  product_s x5 x r c

/-- The first output's power sums added to what was accumulated: row `k` gains the sum of the block's `k+1`-st powers. -/
theorem sums_s (x5 : Vec Ideal S1x128x128 .f32) (x : Vec Ideal S1000x128 .f32) (a : Vec Ideal S5x128 .f32) (k : Fin 5)
    (c : Fin 128) :
    k0_pay27 x5 x a (ix2 k c) = a (ix2 k c) + ∑ r : Fin 1000, power k (k0_pay26 x5 x (ix2 r c)) := by
  delta k0_pay27
  generalize k0_pay26 x5 x = y
  pointwise
  have hk : k = 0 ∨ k = 1 ∨ k = 2 ∨ k = 3 ∨ k = 4 := by omega
  obtain rfl | rfl | rfl | rfl | rfl := hk <;> rfl

/-- The second output's power sums added to what was accumulated. -/
theorem sums_t (x5 : Vec Ideal S1x128x128 .f32) (x : Vec Ideal S1000x128 .f32) (a : Vec Ideal S5x128 .f32) (k : Fin 5)
    (c : Fin 128) :
    k0_pay2 x5 x a (ix2 k c) = a (ix2 k c) + ∑ r : Fin 1000, power k (k0_pay1 x5 x (ix2 r c)) :=
  sums_s x5 x a k c

/-- The zeroed accumulator. -/
theorem zeroed (r : Fin 16) (c : Fin 128) : k0_pay25 (F := Ideal) (ix2 r c) = 0 := by
  unfold_payloads
  pointwise

/-- Accumulator row of the `k`-th power sum of the first product. -/
abbrev top (k : Fin 5) : Fin 16 := ⟨k.val, by omega⟩
/-- Accumulator row of the `k`-th power sum of the second product. -/
abbrev bot (k : Fin 5) : Fin 16 := ⟨8 + k.val, by omega⟩

variable (v : Vec Ideal S16x128 .f32) (c : Fin 128)

/-- The scaled accumulator. -/
theorem scaled (r : Fin 16) : k0_pay3 v (ix2 r c) = v (ix2 r c) * w := by
  delta k0_pay3
  pointwise [inv_n]

/-- The average of the first powers of the first product's column. -/
theorem avg1_s : k0_pay5 v (ix2 0 c) = v (ix2 (top 0) c) * w := by
  delta k0_pay5 k0_pay4
  pointwise [scaled]
  rfl

/-- The average of the second powers of the first product's column. -/
theorem avg2_s : k0_pay6 v (ix2 0 c) = v (ix2 (top 1) c) * w := by
  delta k0_pay6 k0_pay4
  pointwise [scaled]
  rfl

/-- The average of the third powers of the first product's column. -/
theorem avg3_s : k0_pay7 v (ix2 0 c) = v (ix2 (top 2) c) * w := by
  delta k0_pay7 k0_pay4
  pointwise [scaled]
  rfl

/-- The average of the fourth powers of the first product's column. -/
theorem avg4_s : k0_pay8 v (ix2 0 c) = v (ix2 (top 3) c) * w := by
  delta k0_pay8 k0_pay4
  pointwise [scaled]
  rfl

/-- The second central moment of the first product's column. -/
theorem raw2_s : k0_pay9 v (ix2 0 c) = raw2 (v (ix2 (top 0) c) * w) (v (ix2 (top 1) c) * w) := by
  delta k0_pay9
  pointwise [avg1_s, avg2_s, two, three, four, five, six, ten]
  rfl

/-- The third central moment of the first product's column. -/
theorem raw3_s : k0_pay10 v (ix2 0 c) = raw3 (v (ix2 (top 0) c) * w) (v (ix2 (top 1) c) * w) (v (ix2 (top 2) c) * w) := by
  delta k0_pay10
  pointwise [avg1_s, avg2_s, avg3_s, two, three, four, five, six, ten]
  rfl

/-- The fourth central moment of the first product's column. -/
theorem raw4_s : k0_pay11 v (ix2 0 c) = raw4 (v (ix2 (top 0) c) * w) (v (ix2 (top 1) c) * w) (v (ix2 (top 2) c) * w) (v (ix2 (top 3) c) * w) := by
  delta k0_pay11
  pointwise [avg1_s, avg2_s, avg3_s, avg4_s, two, three, four, five, six, ten]
  rfl

/-- The average of the first powers of the second product's column. -/
theorem avg1_t : k0_pay15 (k0_pay3 v) (ix2 0 c) = v (ix2 (bot 0) c) * w := by
  delta k0_pay15 k0_pay14
  pointwise [scaled]
  rfl

/-- The average of the second powers of the second product's column. -/
theorem avg2_t : k0_pay16 (k0_pay3 v) (ix2 0 c) = v (ix2 (bot 1) c) * w := by
  delta k0_pay16 k0_pay14
  pointwise [scaled]
  rfl

/-- The average of the third powers of the second product's column. -/
theorem avg3_t : k0_pay17 (k0_pay3 v) (ix2 0 c) = v (ix2 (bot 2) c) * w := by
  delta k0_pay17 k0_pay14
  pointwise [scaled]
  rfl

/-- The average of the fourth powers of the second product's column. -/
theorem avg4_t : k0_pay18 (k0_pay3 v) (ix2 0 c) = v (ix2 (bot 3) c) * w := by
  delta k0_pay18 k0_pay14
  pointwise [scaled]
  rfl

/-- The second central moment of the second product's column. -/
theorem raw2_t : k0_pay19 (k0_pay3 v) (ix2 0 c) = raw2 (v (ix2 (bot 0) c) * w) (v (ix2 (bot 1) c) * w) := by
  delta k0_pay19
  pointwise [avg1_t, avg2_t, two, three, four, five, six, ten]
  rfl

/-- The third central moment of the second product's column. -/
theorem raw3_t : k0_pay20 (k0_pay3 v) (ix2 0 c) = raw3 (v (ix2 (bot 0) c) * w) (v (ix2 (bot 1) c) * w) (v (ix2 (bot 2) c) * w) := by
  delta k0_pay20
  pointwise [avg1_t, avg2_t, avg3_t, two, three, four, five, six, ten]
  rfl

/-- The fourth central moment of the second product's column. -/
theorem raw4_t : k0_pay21 (k0_pay3 v) (ix2 0 c) = raw4 (v (ix2 (bot 0) c) * w) (v (ix2 (bot 1) c) * w) (v (ix2 (bot 2) c) * w) (v (ix2 (bot 3) c) * w) := by
  delta k0_pay21
  pointwise [avg1_t, avg2_t, avg3_t, avg4_t, two, three, four, five, six, ten]
  rfl

/-- The fifth central moment of the first product's column. -/
theorem raw5_s : k0_pay13 (k0_pay5 v) (k0_pay12 v) (ix2 0 c) = raw5 (v (ix2 (top 0) c) * w) (v (ix2 (top 1) c) * w) (v (ix2 (top 2) c) * w) (v (ix2 (top 3) c) * w) (v (ix2 (top 4) c) * w) := by
  delta k0_pay13 k0_pay12 k0_pay4
  pointwise [scaled, avg1_s, avg2_s, avg3_s, avg4_s, two, three, four, five, six, ten]
  rfl

/-- The loss as the last point computes it from the accumulator. -/
def lossOf (v : Vec Ideal S16x128 .f32) : Vec Ideal S1x1 .f32 :=
  k0_pay24 (k0_pay5 v) (k0_pay9 v) (k0_pay10 v) (k0_pay11 v) (k0_pay13 (k0_pay5 v) (k0_pay12 v))
    (k0_pay15 (k0_pay3 v)) (k0_pay19 (k0_pay3 v)) (k0_pay20 (k0_pay3 v)) (k0_pay21 (k0_pay3 v))
    (k0_pay22 (k0_pay3 v)) (k0_pay23 (k0_pay3 v))

/-- It is the loss of the averages in the accumulator's rows. -/
theorem lossOf_apply (i : S1x1.Idx) :
    lossOf v i = momentLoss (fun k c => v (ix2 (top k) c) * w) (fun k c => v (ix2 (bot k) c) * w) := by
  delta lossOf k0_pay24 k0_pay22 k0_pay23 k0_pay14
  pointwise [scaled, avg1_s, raw2_s, raw3_s, raw4_s, raw5_s, avg1_t, avg2_t, avg3_t, avg4_t, raw2_t, raw3_t, raw4_t, two, three, four, five, six, ten]
  simp only [Finset.univ_unique, Finset.sum_singleton]
  rfl

end Cert.KernelIdeal.Block
end
-- ==== Proof.Windows.lean ====
/-
  Which entries of the arguments a point of the grid reads: a thousand rows of either feature array, and the two weight
  matrices out of their stack.
-/
module

public import proofs.«01_k».proof.Proof.Gen.KernelIdeal.Value
public import proofs.«01_k».proof.Proof.Block
public import Idealize.ShloMosaic.Lib.Pipeline.ValueKit.Point
public import Idealize.ShloMosaic.Lib.Pipeline.ValueKit.Tiles

@[expose] public section

set_option maxRecDepth 16384

noncomputable section

namespace Cert.KernelIdeal.Windows

open Cert.KernelIdeal Cert.KernelIdeal.Gen Idealize.ShloMosaic Idealize.ShloMosaic.TcCoe Idealize.SL.Sem

variable (m : (ℓ : Loc nD τ sig) → Buf (Elt Ideal) ℓ)

/-- The input windows of the features sit at block row `t / 5`, so that block `t / 5` plus the offset
    `(t % 5) * 1000` the body adds is row `1000 * t`. -/
theorem place : ∀ t : Fin grid0.N, win0_0.index t 0 * 5000 + k0_off1 (grid0.coords t) 0 = 1000 * t.val
    ∧ win0_0.index t 1 = 0 ∧ k0_off1 (grid0.coords t) 1 = 0
    ∧ win0_1.index t 0 = win0_0.index t 0 ∧ win0_1.index t 1 = 0
    ∧ win0_2.index t 0 = 0 ∧ win0_2.index t 1 = 0 ∧ win0_2.index t 2 = 0
    ∧ k0_off1 (grid0.coords t) 0 ≤ 4000 := by
  decide +kernel

/-- A row of a point is one of the ten thousand rows. -/
theorem row_lt (t : Fin cfg0.N) (r : Fin 1000) : 1000 * t.val + r.val < 10000 := by
  have h : t.val < 10 := t.isLt
  omega

/-- Row `r` of the thousand rows of point `t`, as a row of the whole array. -/
abbrev row (t : Fin cfg0.N) (r : Fin 1000) : Fin 10000 := ⟨1000 * t.val + r.val, row_lt t r⟩

/-- The rows of the first features that point `t` reads. -/
theorem feat_s (c : Dev nD) (t : Fin cfg0.N) (r : Fin 1000) (k : Fin 128) (inb) :
    View.ld (iblk m c 0 t) (Rect.unit (k0_off1 (grid0.coords t)) ![1000, 128] inb) (ix2 r k)
      = m ((c : Thread nD τ).loc main_arg0) (ix2 (row t r) k) := by
  obtain ⟨h0, h1, h2, h3, h4, h5, h6, h7, h8⟩ := place t
  rw [View.ld_unit_apply_of (i := ix2 ⟨k0_off1 (grid0.coords t) 0 + r.val, by omega⟩ k)]
  · blk_ext! [iblk, V, h0, h1]
  · intro a
    fin_cases a <;> simp [h2]

/-- The rows of the second features that point `t` reads. -/
theorem feat_t (c : Dev nD) (t : Fin cfg0.N) (r : Fin 1000) (k : Fin 128) (inb) :
    View.ld (iblk m c 1 t) (Rect.unit (k0_off1 (grid0.coords t)) ![1000, 128] inb) (ix2 r k)
      = m ((c : Thread nD τ).loc main_arg1) (ix2 (row t r) k) := by
  obtain ⟨h0, h1, h2, h3, h4, h5, h6, h7, h8⟩ := place t
  rw [View.ld_unit_apply_of (i := ix2 ⟨k0_off1 (grid0.coords t) 0 + r.val, by omega⟩ k)]
  · blk_ext! [iblk, V, h3, h4]
  · intro a
    fin_cases a <;> simp [h2]

/-- The first of the stacked weights is the first weight matrix. -/
theorem weight_s (c : Dev nD) (t : Fin cfg0.N) (k j : Fin 128) (inb) :
    View.ld (iblk m c 2 t) (Rect.unit ![0, 0, 0] ![1, 128, 128] inb) (ix3 0 k j)
      = m ((c : Thread nD τ).loc main_arg2) (ix2 k j) := by
  obtain ⟨h0, h1, h2, h3, h4, h5, h6, h7, h8⟩ := place t
  rw [View.ld_unit_apply_of (i := ix3 0 k j)]
  · blk_simp [iblk, V]
    entry_read
    pointwise
    blk_simp [h5, h6, h7]
    rw [dif_pos (by decide)]
    blk_ext [h5, h6, h7]
  · intro a
    fin_cases a <;> simp

/-- The second of the stacked weights is the second weight matrix. -/
theorem weight_t (c : Dev nD) (t : Fin cfg0.N) (k j : Fin 128) (inb) :
    View.ld (iblk m c 2 t) (Rect.unit ![1, 0, 0] ![1, 128, 128] inb) (ix3 0 k j)
      = m ((c : Thread nD τ).loc main_arg3) (ix2 k j) := by
  obtain ⟨h0, h1, h2, h3, h4, h5, h6, h7, h8⟩ := place t
  rw [View.ld_unit_apply_of (i := ix3 1 k j)]
  · blk_simp [iblk, V]
    entry_read
    pointwise
    blk_simp [h5, h6, h7]
    rw [dif_neg (by decide)]
    blk_ext [h5, h6, h7]
  · intro a
    fin_cases a <;> simp

end Cert.KernelIdeal.Windows

end
-- ==== Proof.Points.lean ====
/-
  What the arrays of the kernel hold after each point of its grid, entry by entry: the block of either product, and
  the power sums that the point adds to ten accumulated rows.
-/
module

public import proofs.«01_k».proof.Proof.Windows
public import Idealize.ShloMosaic.Lib.Pipeline.ValueKit.Acc

@[expose] public section

set_option maxRecDepth 16384

noncomputable section

namespace Cert.KernelIdeal.Points

open Cert.KernelIdeal Cert.KernelIdeal.Gen Idealize.ShloMosaic Idealize.ShloMosaic.TcCoe Idealize.SL.Sem
open Cert.Moments Cert.KernelIdeal.Block Cert.KernelIdeal.Windows

variable (m : (ℓ : Loc nD τ sig) → Buf (Elt Ideal) ℓ)

/-- Entry `(r, j)` of the product of ten thousand rows of features with a weight matrix. -/
def entry (x : Vec Ideal S10000x128 .f32) (w : Vec Ideal S128x128 .f32) (r : Fin 10000) (j : Fin 128) : EReal :=
  ∑ k : Fin 128, x (ix2 r k) * w (ix2 k j)

/-- Entry `(r, j)` of the product of the first features with the first weights. -/
abbrev entryS (c : Dev nD) : Fin 10000 → Fin 128 → EReal :=
  entry (m ((c : Thread nD τ).loc main_arg0)) (m ((c : Thread nD τ).loc main_arg2))

/-- Entry `(r, j)` of the product of the second features with the second weights. -/
abbrev entryT (c : Dev nD) : Fin 10000 → Fin 128 → EReal :=
  entry (m ((c : Thread nD τ).loc main_arg1)) (m ((c : Thread nD τ).loc main_arg3))

/-- The first product block that point `t` computes holds the entries of its thousand rows. -/
theorem block_s (c : Dev nD) (t : Fin cfg0.N) (r : Fin 1000) (j : Fin 128) (i2 i0) :
    k0_pay26 (View.ld (iblk m c 2 t) (Rect.unit ![0, 0, 0] ![1, 128, 128] i2))
        (View.ld (iblk m c 0 t) (Rect.unit (k0_off1 (grid0.coords t)) ![1000, 128] i0)) (ix2 r j)
      = entryS m c (row t r) j := by
  rw [product_s]
  unfold entryS entry
  exact Finset.sum_congr rfl fun k _ => by rw [feat_s, weight_s]

/-- The same of the second product. -/
theorem block_t (c : Dev nD) (t : Fin cfg0.N) (r : Fin 1000) (j : Fin 128) (i2 i1) :
    k0_pay1 (View.ld (iblk m c 2 t) (Rect.unit ![1, 0, 0] ![1, 128, 128] i2))
        (View.ld (iblk m c 1 t) (Rect.unit (k0_off1 (grid0.coords t)) ![1000, 128] i1)) (ix2 r j)
      = entryT m c (row t r) j := by
  rw [product_t]
  unfold entryT entry
  exact Finset.sum_congr rfl fun k _ => by rw [feat_t, weight_t]

/-- After point `t` the first output block holds its thousand rows of the first product. -/
theorem out_s (c : Dev nD) (t : Fin cfg0.N) (r : Fin 1000) (j : Fin 128) :
    (outsAt0 m c t.val t.isLt).1 (ix2 r j) = entryS m c (row t r) j := by
  by_cases h0 : t.val % 10 = 0
  · have h1 : ¬ t.val % 10 = 9 := by omega
    rw [outsAt0_A m c t h0 h1]; frame_out
    exact block_s m c t r j _ _
  · by_cases h1 : t.val % 10 = 9
    · rw [outsAt0_C m c t h0 h1]; frame_out
      exact block_s m c t r j _ _
    · rw [outsAt0_B m c t h0 h1]; frame_out
      exact block_s m c t r j _ _

/-- After point `t` the second output block holds its thousand rows of the second product. -/
theorem out_t (c : Dev nD) (t : Fin cfg0.N) (r : Fin 1000) (j : Fin 128) :
    (outsAt0 m c t.val t.isLt).2.1 (ix2 r j) = entryT m c (row t r) j := by
  by_cases h0 : t.val % 10 = 0
  · have h1 : ¬ t.val % 10 = 9 := by omega
    rw [outsAt0_A m c t h0 h1]; frame_out
    exact block_t m c t r j _ _
  · by_cases h1 : t.val % 10 = 9
    · rw [outsAt0_C m c t h0 h1]; frame_out
      exact block_t m c t r j _ _
    · rw [outsAt0_B m c t h0 h1]; frame_out
      exact block_t m c t r j _ _

/-- The sum of the `k`-th powers of column `j` over the rows of point `t`, first product. -/
abbrev partS (c : Dev nD) (k : Fin 5) (j : Fin 128) (t : Fin cfg0.N) : EReal :=
  ∑ r : Fin 1000, power k (entryS m c (row t r) j)

/-- The same of the second product. -/
abbrev partT (c : Dev nD) (k : Fin 5) (j : Fin 128) (t : Fin cfg0.N) : EReal :=
  ∑ r : Fin 1000, power k (entryT m c (row t r) j)

/-- Power sums of point `t` added to five accumulated rows, first product. -/
theorem add_s (c : Dev nD) (t : Fin cfg0.N) (k : Fin 5) (j : Fin 128) (i2 i0) (a : Vec Ideal S5x128 .f32) :
    k0_pay27 (View.ld (iblk m c 2 t) (Rect.unit ![0, 0, 0] ![1, 128, 128] i2))
        (View.ld (iblk m c 0 t) (Rect.unit (k0_off1 (grid0.coords t)) ![1000, 128] i0)) a (ix2 k j)
      = a (ix2 k j) + partS m c k j t := by
  rw [sums_s]
  simp only [block_s]

/-- The same of the second product. -/
theorem add_t (c : Dev nD) (t : Fin cfg0.N) (k : Fin 5) (j : Fin 128) (i2 i1) (a : Vec Ideal S5x128 .f32) :
    k0_pay2 (View.ld (iblk m c 2 t) (Rect.unit ![1, 0, 0] ![1, 128, 128] i2))
        (View.ld (iblk m c 1 t) (Rect.unit (k0_off1 (grid0.coords t)) ![1000, 128] i1)) a (ix2 k j)
      = a (ix2 k j) + partT m c k j t := by
  rw [sums_t]
  simp only [block_t]

end Cert.KernelIdeal.Points

end
-- ==== Proof.Fold.lean ====
/-
  What the ten accumulated rows hold after each point of the grid, and the loss the last point writes.
-/
module

public import proofs.«01_k».proof.Proof.Points
public import Idealize.ShloMosaic.Lib.Pipeline.ReadBack
public import Idealize.ShloMosaic.Lib.WritesUnit

@[expose] public section

set_option maxRecDepth 16384

noncomputable section

namespace Cert.KernelIdeal.Fold

open Cert.KernelIdeal Cert.KernelIdeal.Gen Idealize.ShloMosaic Idealize.ShloMosaic.TcCoe Idealize.SL.Sem
open Cert.Moments Cert.KernelIdeal.Block Cert.KernelIdeal.Windows Cert.KernelIdeal.Points

variable (m : (ℓ : Loc nD τ sig) → Buf (Elt Ideal) ℓ)

/-- The two stores of a point: rows `0..4` take `w`, then rows `8..12` take `w'`. -/
abbrev stores (w w' : Vec Ideal S5x128 .f32) (L : List (View.Piece (Elt Ideal) S16x128 .f32)) :
    List (View.Piece (Elt Ideal) S16x128 .f32) :=
  ⟨Rect.unit ![8, 0] ![5, 128] inb_S16x128_S5x128_8_0, w'⟩
    :: ⟨Rect.unit ![0, 0] ![5, 128] inb_S16x128_S5x128_0_0, w⟩ :: L

/-- Row `k` read after the two stores is row `k` of the first one. -/
theorem read_top (f) (w w' : Vec Ideal S5x128 .f32) (L) (k : Fin 5) (j : Fin 128) :
    View.read (Elt Ideal) (View.whole cc0_scratch0) ((View.whole cc0_scratch0).writes (Elt Ideal) f (stores w w' L))
      (ix2 (top k) j) = w (ix2 k j) := by
  rw [View.read_writes_cons_rows_of_not_mem (o := 8) (W := 5) (hoff := rfl) (hW := rfl)
    (h := Or.inl (by show k.val < 8; omega))]
  exact View.read_writes_cons_rows_of_mem (o := 0) _ _ _ _ _ _ (ix2 k j) rfl (by simp) rfl

/-- Row `8 + k` read after the two stores is row `k` of the second one. -/
theorem read_bot (f) (w w' : Vec Ideal S5x128 .f32) (L) (k : Fin 5) (j : Fin 128) :
    View.read (Elt Ideal) (View.whole cc0_scratch0) ((View.whole cc0_scratch0).writes (Elt Ideal) f (stores w w' L))
      (ix2 (bot k) j) = w' (ix2 k j) :=
  View.read_writes_cons_rows_of_mem (o := 8) _ _ _ _ _ _ (ix2 k j) rfl rfl rfl

/-- Rows `0..4` of the accumulator. -/
abbrev topRect : Rect S16x128 := Rect.unit ![0, 0] ![5, 128] inb_S16x128_S5x128_0_0

/-- Rows `8..12` of the accumulator. -/
abbrev botRect : Rect S16x128 := Rect.unit ![8, 0] ![5, 128] inb_S16x128_S5x128_8_0

/-- The accumulator zeroed in one store. -/
abbrev clear : List (View.Piece (Elt Ideal) S16x128 .f32) :=
  [⟨Rect.unit ![0, 0] ![16, 128] inb_S16x128_S16x128_0_0, k0_pay25 (F := Ideal)⟩]

/-- Rows `0..4` of the accumulator just zeroed. -/
theorem zero_top {κ sp} (v : View sig κ sp S16x128 .f32) (k : Fin 5) (j : Fin 128) :
    v.readCov clear topRect.toLoadRect (ix2 k j) = (0 : EReal) := by
  refine Eq.trans (View.read_writes_cons_rows_of_mem (o := 0) _ _ _ _ _ _ (ix2 (top k) j) rfl ?_ ?_) (zeroed (top k) j)
  · simp [Rect.idx_unit_val]
  · simp [Rect.idx_unit_val]

/-- Rows `8..12` of the accumulator just zeroed, rows `0..4` being stored over in between. -/
theorem zero_bot {κ sp} (v : View sig κ sp S16x128 .f32) (w : Vec Ideal S5x128 .f32) (k : Fin 5) (j : Fin 128) :
    v.readCov (⟨Rect.unit ![0, 0] ![5, 128] inb_S16x128_S5x128_0_0, w⟩ :: clear)
      botRect.toLoadRect (ix2 k j) = (0 : EReal) := by
  refine Eq.trans (View.read_writes_cons_rows_of_not_mem (o := 0) (W := 5) _ _ _ _ _ _ rfl rfl (Or.inr ?_))
    (Eq.trans (View.read_writes_cons_rows_of_mem (o := 0) _ _ _ _ _ _ (ix2 (bot k) j) rfl ?_ ?_) (zeroed (bot k) j))
  · simp [Rect.idx_unit_val]
    omega
  · simp [Rect.idx_unit_val]
  · simp [Rect.idx_unit_val]

/-- The five rows from row `0` of an array, read at row `k`. -/
theorem ld_top (v : Vec Ideal S16x128 .f32) (k : Fin 5) (j : Fin 128) (inb) :
    View.ld v (Rect.unit ![0, 0] ![5, 128] inb) (ix2 k j) = v (ix2 (top k) j) :=
  View.ld_unit_apply_of v _ _ inb _ _ (by intro a; fin_cases a <;> simp)

/-- The five rows from row `8` of an array, read at row `k`. -/
theorem ld_bot (v : Vec Ideal S16x128 .f32) (k : Fin 5) (j : Fin 128) (inb) :
    View.ld v (Rect.unit ![8, 0] ![5, 128] inb) (ix2 k j) = v (ix2 (bot k) j) :=
  View.ld_unit_apply_of v _ _ inb _ _ (by intro a; fin_cases a <;> simp)

/-- After the first point the accumulator holds its power sums. -/
theorem first_s (c : Dev nD) (t : Fin cfg0.N) (h0 : t.val % 10 = 0) (k : Fin 5) (j : Fin 128) :
    (outsAt0 m c t.val t.isLt).2.2.2 (ix2 (top k) j) = partS m c k j t := by
  have h1 : ¬ t.val % 10 = 9 := by omega
  rw [outsAt0_A m c t h0 h1]; frame_out
  rw [← View.read_writes_junk_apply_eq_canon (View.whole cc0_scratch0), read_top, add_s, zero_top, zero_add]

/-- The same of the second product. -/
theorem first_t (c : Dev nD) (t : Fin cfg0.N) (h0 : t.val % 10 = 0) (k : Fin 5) (j : Fin 128) :
    (outsAt0 m c t.val t.isLt).2.2.2 (ix2 (bot k) j) = partT m c k j t := by
  have h1 : ¬ t.val % 10 = 9 := by omega
  rw [outsAt0_A m c t h0 h1]; frame_out
  rw [← View.read_writes_junk_apply_eq_canon (View.whole cc0_scratch0), read_bot, add_t, zero_bot, zero_add]

/-- Every later point adds its power sums to what its predecessor left. -/
theorem next_s (c : Dev nD) (t : Fin cfg0.N) (h0 : ¬ t.val % 10 = 0) (k : Fin 5) (j : Fin 128) :
    (outsAt0 m c t.val t.isLt).2.2.2 (ix2 (top k) j)
      = (outsAt0 m c (t.val - 1) (by omega)).2.2.2 (ix2 (top k) j) + partS m c k j t := by
  by_cases h1 : t.val % 10 = 9
  · rw [outsAt0_C m c t h0 h1]; frame_out
    rw [read_top, add_s, ld_top, read_unread_whole]
  · rw [outsAt0_B m c t h0 h1]; frame_out
    rw [read_top, add_s, ld_top, read_unread_whole]

/-- The same of the second product. -/
theorem next_t (c : Dev nD) (t : Fin cfg0.N) (h0 : ¬ t.val % 10 = 0) (k : Fin 5) (j : Fin 128) :
    (outsAt0 m c t.val t.isLt).2.2.2 (ix2 (bot k) j)
      = (outsAt0 m c (t.val - 1) (by omega)).2.2.2 (ix2 (bot k) j) + partT m c k j t := by
  by_cases h1 : t.val % 10 = 9
  · rw [outsAt0_C m c t h0 h1]; frame_out
    rw [read_bot, add_t, ld_bot, read_unread_whole]
  · rw [outsAt0_B m c t h0 h1]; frame_out
    rw [read_bot, add_t, ld_bot, read_unread_whole]

/-- The thousand rows of each of the ten points are the ten thousand rows. -/
theorem sum_rows (f : Fin 10000 → EReal) : ∑ t : Fin cfg0.N, ∑ r : Fin 1000, f (row t r) = ∑ r : Fin 10000, f r :=
  Fin.sum_mul_add_congr (fun t r hl => congrArg f (Fin.ext (by show 1000 * t.val + r.val = t.val * 1000 + r.val; omega)))
    (by rw [show cfg0.N = 10 from N_0])

/-- After the last point row `k` of the accumulator holds the sum over all rows of the `k`-th powers, first product. -/
theorem total_s (c : Dev nD) (t : Fin cfg0.N) (ht : t.val = 9) (k : Fin 5) (j : Fin 128) :
    (outsAt0 m c t.val t.isLt).2.2.2 (ix2 (top k) j) = ∑ r : Fin 10000, power k (entryS m c r j) := by
  rw [← sum_rows fun r => power k (entryS m c r j)]
  refine (Pipeline.eq_sum_fin_of_reset_step_last (fun n h => ((outsAt0 m c n h).2.2.2 (ix2 (top k) j) : EReal)) 10 0
    (partS m c k j) (fun t h => ?_) (fun t h => next_s m c t h k j) (le_of_eq N_0) t ?_).trans (zero_add _)
  · rw [zero_add]
    exact first_s m c t h k j
  · rw [ht]
    exact N_0.symm

/-- The same of the second product, in row `8 + k`. -/
theorem total_t (c : Dev nD) (t : Fin cfg0.N) (ht : t.val = 9) (k : Fin 5) (j : Fin 128) :
    (outsAt0 m c t.val t.isLt).2.2.2 (ix2 (bot k) j) = ∑ r : Fin 10000, power k (entryT m c r j) := by
  rw [← sum_rows fun r => power k (entryT m c r j)]
  refine (Pipeline.eq_sum_fin_of_reset_step_last (fun n h => ((outsAt0 m c n h).2.2.2 (ix2 (bot k) j) : EReal)) 10 0
    (partT m c k j) (fun t h => ?_) (fun t h => next_t m c t h k j) (le_of_eq N_0) t ?_).trans (zero_add _)
  · rw [zero_add]
    exact first_t m c t h k j
  · rw [ht]
    exact N_0.symm

/-- The loss the last point writes is read off the accumulator as it leaves it. -/
theorem last_reads (c : Dev nD) (t : Fin cfg0.N) (h0 : ¬ t.val % 10 = 0) (h1 : t.val % 10 = 9) :
    (outsAt0 m c t.val t.isLt).2.2.1 = lossOf (outsAt0 m c t.val t.isLt).2.2.2 := by
  have e : (outsAt0 m c t.val t.isLt).2.2.2 = (outsAt0 m c t.val t.isLt).2.2.2 := rfl
  conv_lhs at e => rw [outsAt0_C m c t h0 h1]
  conv_lhs => rw [outsAt0_C m c t h0 h1]
  frame_out
  frame_out at e
  rw [e]
  rfl

/-- The loss the last point writes is the plain loss of the two products. -/
theorem last_loss (c : Dev nD) (t : Fin cfg0.N) (ht : t.val = 9) (i : S1x1.Idx) :
    (outsAt0 m c t.val t.isLt).2.2.1 i
      = plainLoss Consts.w (fun j r => entryS m c r j) (fun j r => entryT m c r j) := by
  rw [last_reads m c t (by omega) (by omega), lossOf_apply]
  simp only [total_s m c t ht, total_t m c t ht]
  exact rawLoss_eq_plainLoss (1 / 10000) (by simp) (fun j r => entryS m c r j) (fun j r => entryT m c r j)

end Cert.KernelIdeal.Fold

end
-- ==== Proof.Arrays.lean ====
/-
  What the three result arrays hold when the kernel has run, entry by entry.
-/
module

public import proofs.«01_k».proof.Proof.Fold

@[expose] public section

set_option maxRecDepth 16384

noncomputable section

namespace Cert.KernelIdeal.Arrays

open Cert.KernelIdeal Cert.KernelIdeal.Gen Cert.KernelIdeal.Value Idealize.ShloMosaic Idealize.ShloMosaic.TcCoe Idealize.SL.Sem
open Cert.Moments Cert.KernelIdeal.Windows Cert.KernelIdeal.Points Cert.KernelIdeal.Fold

variable (m : (ℓ : Loc nD τ sig) → Buf (Elt Ideal) ℓ)

/-- The point whose block holds row `r`. -/
def pointOf (r : Fin 10000) : Fin cfg0.N := ⟨r.val / 1000, by rw [show cfg0.N = 10 from N_0]; omega⟩

/-- The place of row `r` in that block. -/
def placeOf (r : Fin 10000) : Fin 1000 := ⟨r.val % 1000, by omega⟩

/-- Point and place give the row back. -/
theorem row_pointOf (r : Fin 10000) : row (pointOf r) (placeOf r) = r :=
  Fin.ext (Nat.div_add_mod r.val 1000)

/-- The first result is the first product. -/
theorem result_s (c : Dev nD) (r : Fin 10000) (j : Fin 128) : G3 m c (ix2 r j) = entryS m c r j := by
  have hp : pt3Of (ix2 r j) = (pointOf r).val := by
    show 1 * (r.val / 1000 - 0) + 1 * (j.val / 128 - 0) = r.val / 1000
    omega
  have hl : loc3Of (ix2 r j) = ix2 (placeOf r) j := by
    funext a; apply Fin.ext
    match a with
    | ⟨0, _⟩ => rfl
    | ⟨1, _⟩ => exact Nat.mod_eq_of_lt j.isLt
  unfold G3
  rw [dif_pos (by rw [hp]; exact (pointOf r).isLt), hl, fold0_congr m c _ _ _ (by simpa using (pointOf r).isLt) hp,
    ← outsAt0_sweep m c _ (pointOf r).isLt, out_s, row_pointOf]

/-- The second result is the second product. -/
theorem result_t (c : Dev nD) (r : Fin 10000) (j : Fin 128) : G4 m c (ix2 r j) = entryT m c r j := by
  have hp : pt4Of (ix2 r j) = (pointOf r).val := by
    show 1 * (r.val / 1000 - 0) + 1 * (j.val / 128 - 0) = r.val / 1000
    omega
  have hl : loc4Of (ix2 r j) = ix2 (placeOf r) j := by
    funext a; apply Fin.ext
    match a with
    | ⟨0, _⟩ => rfl
    | ⟨1, _⟩ => exact Nat.mod_eq_of_lt j.isLt
  unfold G4
  rw [dif_pos (by rw [hp]; exact (pointOf r).isLt), hl, fold0_congr m c _ _ _ (by simpa using (pointOf r).isLt) hp,
    ← outsAt0_sweep m c _ (pointOf r).isLt, out_t, row_pointOf]

/-- The third result is the plain loss of the two products. -/
theorem result_loss (c : Dev nD) (i : S1x1.Idx) :
    G5 m c i = plainLoss Consts.w (fun j r => entryS m c r j) (fun j r => entryT m c r j) := by
  have h9 : 9 < cfg0.N := lt_of_lt_of_eq (by decide) N_0.symm
  rw [G5_last, ← outsAt0_sweep m c 9 h9]
  exact last_loss m c ⟨9, h9⟩ rfl i

end Cert.KernelIdeal.Arrays

end
-- ==== Proof.Equal.lean ====
/-
  The equation: each result array of the kernel is the reference's, as a function of the four arguments.
-/
module

public import proofs.«01_k».proof.Proof.RefValue
public import proofs.«01_k».proof.Proof.Arrays

@[expose] public section

set_option maxRecDepth 16384

noncomputable section

namespace Cert.Equal

open Cert.KernelIdeal Cert.KernelIdeal.Value Idealize.ShloMosaic Idealize.ShloMosaic.TcCoe Idealize.SL.Sem
open Cert.ReferenceIdeal.Read Cert.ReferenceIdeal.Loss Cert.KernelIdeal.Points Cert.KernelIdeal.Arrays

/-- An entry of the reference's first product. -/
theorem ref_s (x : Vec Ideal S10000x128 .f32) (w : Vec Ideal S128x128 .f32) (r : Fin 10000) (j : Fin 128) :
    val_main_v0 (F := Ideal) x w (ix2 r j) = entry x w r j := by
  rw [val_main_v0_apply]
  unfold entry
  refine Finset.sum_congr rfl fun k _ => congrArg₂ (· * ·) (congrArg x ?_) (congrArg w ?_)
  · funext a; match a with
    | ⟨0, _⟩ => rfl
    | ⟨1, _⟩ => rfl
  · funext a; match a with
    | ⟨0, _⟩ => rfl
    | ⟨1, _⟩ => rfl

/-- An entry of the reference's second product. -/
theorem ref_t (x : Vec Ideal S10000x128 .f32) (w : Vec Ideal S128x128 .f32) (r : Fin 10000) (j : Fin 128) :
    val_main_v1 (F := Ideal) x w (ix2 r j) = entry x w r j := by
  rw [val_main_v1_apply]
  unfold entry
  refine Finset.sum_congr rfl fun k _ => congrArg₂ (· * ·) (congrArg x ?_) (congrArg w ?_)
  · funext a; match a with
    | ⟨0, _⟩ => rfl
    | ⟨1, _⟩ => rfl
  · funext a; match a with
    | ⟨0, _⟩ => rfl
    | ⟨1, _⟩ => rfl

variable (m : (ℓ : Loc nD τ sig) → Buf (Elt Ideal) ℓ) (c : Dev nD)

/-- The first result. -/
theorem first : G3 m c = val_main_v0 (F := Ideal) (m ((c : Thread nD τ).loc main_arg0)) (m ((c : Thread nD τ).loc main_arg2)) := by
  funext i
  rw [show i = ix2 (⟨(i 0).val, (i 0).isLt⟩ : Fin 10000) (⟨(i 1).val, (i 1).isLt⟩ : Fin 128) from idx_rows i _ _ rfl rfl]
  exact (result_s m c _ _).trans (ref_s _ _ _ _).symm

/-- The second result. -/
theorem second : G4 m c = val_main_v1 (F := Ideal) (m ((c : Thread nD τ).loc main_arg1)) (m ((c : Thread nD τ).loc main_arg3)) := by
  funext i
  rw [show i = ix2 (⟨(i 0).val, (i 0).isLt⟩ : Fin 10000) (⟨(i 1).val, (i 1).isLt⟩ : Fin 128) from idx_rows i _ _ rfl rfl]
  exact (result_t m c _ _).trans (ref_t _ _ _ _).symm

/-- The third result, the loss. -/
theorem third : G5 m c = val_main_v78 (F := Ideal) (m ((c : Thread nD τ).loc main_arg0)) (m ((c : Thread nD τ).loc main_arg1))
    (m ((c : Thread nD τ).loc main_arg2)) (m ((c : Thread nD τ).loc main_arg3)) := by
  funext i
  refine (result_loss m c i).trans (Eq.trans ?_ (loss_unit _ _ _ _ i).symm)
  exact congrArg₂ (Moments.plainLoss Consts.w) (funext fun j => funext fun r => (ref_s _ _ r j).symm)
    (funext fun j => funext fun r => (ref_t _ _ r j).symm)

end Cert.Equal

end
-- ==== Proof.lean ====
/-
  The proof of `Cert.Claim`: the kernel and the reference run and leave their arguments and every semaphore counter as
  they were; the idealized kernel is the kernel with its printed `1 / 10000` read as that real number; and over the
  extended reals the idealized kernel's three results are the reference's. The values are read in `Proof/Arrays.lean`
  (kernel) and `Proof/RefValue.lean` (reference), and `Proof/Equal.lean` equates them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem

/-- The reference runs, its arguments unchanged; it declares no semaphore, so every counter is zero. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The printed constant `1e-4`, named, is `1 / 10000`. -/
theorem preserves : Cert.preserves_Kernel_KernelIdeal :=
  IdealRules.named_const.statement Cert.KernelIdeal.κ "inv_n" .f32 0x38D1B717#32 ((1 / 10000 : ℝ) : EReal) rfl

/-- From memories that agree on the arguments the idealized kernel and the reference end with the same two products and
    the same loss. -/
theorem algebraic : Cert.algebraic_KernelIdeal_ReferenceIdeal := by
  intro m ρ m' ρ' _ hagree
  refine ⟨fun c => Cert.KernelIdeal.Value.G3 m c, fun c => Cert.KernelIdeal.Value.G4 m c,
    fun c => Cert.KernelIdeal.Value.G5 m c, Cert.KernelIdeal.Value.run (F := Ideal) m ρ, ?_⟩
  refine (θ_run Cert.ReferenceIdeal.defs _ _).mono (fun r h c => ?_) (Cert.ReferenceIdeal.Value.run (F := Ideal) m' ρ')
  obtain ⟨hs, ht, hl, hargs⟩ := h c
  obtain ⟨a0, a1, a2, a3, _⟩ := hagree c
  refine ⟨hs.trans ?_, ht.trans ?_, hl.trans ?_, hargs⟩
  · rw [a0, a2]
    exact (Equal.first m c).symm
  · rw [a1, a3]
    exact (Equal.second m c).symm
  · rw [Cert.ReferenceIdeal.Read.val_main_v78_eq, a0, a1, a2, a3]
    exact (Equal.third m c).symm

/-- Everything claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, preserves, algebraic⟩

end Cert.Proof

end
